-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_in_range [hPre_scores_in_range : Cert.Pre_scores_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_scores_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_in_range [hPre_scores_in_range : Cert.Pre_scores_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_scores_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_scores_in_range [hKernelIdeal : Cert.KernelIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_scores_in_range [hReferenceIdeal : Cert.ReferenceIdeal.Facts] [hPre_scores_in_range : Cert.Pre_scores_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_scores_in_range [hKernelIdeal : Cert.KernelIdeal.Facts] [hReferenceIdeal : Cert.ReferenceIdeal.Facts] [hPre_scores_in_range : Cert.Pre_scores_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_scores_in_range : Cert.Pre_scores_in_range.Facts),
    quiescent_Kernel (hKernel := hKernel)
    ∧ quiescent_KernelIdeal (hKernelIdeal := hKernelIdeal)
    ∧ quiescent_KernelIdeal_pre_scores_in_range (hKernelIdeal := hKernelIdeal) (hPre_scores_in_range := hPre_scores_in_range)
    ∧ quiescent_ReferenceIdeal (hReferenceIdeal := hReferenceIdeal)
    ∧ quiescent_ReferenceIdeal_pre_scores_in_range (hReferenceIdeal := hReferenceIdeal) (hPre_scores_in_range := hPre_scores_in_range)
    ∧ preserves_Kernel_KernelIdeal
    ∧ algebraic_KernelIdeal_ReferenceIdeal_pre_scores_in_range (hKernelIdeal := hKernelIdeal) (hReferenceIdeal := hReferenceIdeal) (hPre_scores_in_range := hPre_scores_in_range)
-- ==== Pre_scores_in_range.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩

class Facts : Prop where
  transposes_S1024x1024_S1024x1024_1_0 : S1024x1024.Transposes [1, 0] S1024x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S1024 : S_.BroadcastsInDim S1024 (![] : Fin 0 → Fin S1024.rank)
  bcast_S_S2x16x2048 : S_.BroadcastsInDim S2x16x2048 (![] : Fin 0 → Fin S2x16x2048.rank)
  dot_S2x2048x1024_S1024x1024_S2x2048x1024_2_0_01_1_n_n_wf : DotDims.WF S2x2048x1024 S1024x1024 S2x2048x1024 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]

variable [Facts]

def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def fn_part1 {F : FTy → Type} [FloatOps F] (main_arg4 : FVec F S1024 .f32) (main_arg6 : FVec F S1024 .f32) (main_arg8 : FVec F S1024 .f32) (main_v19 : FVec F S2x16x2048 .f32) (main_cst_2 : FVec F S_ .f32) : IVec S1024 1 × IVec S1024 1 × IVec S1024 1 × IVec S2x16x2048 1 :=
  let main_v20 : FVec F S1024 .f32 := broadcastInDim S1024 ![] bcast_S_S1024 main_cst_2
  let main_v21 : IVec S1024 1 := cmpf .oeq main_arg4 main_v20
  let main_cst_3 : FVec F S_ .f32 := constant S_ .f32 0x00000000#32
  let main_v22 : FVec F S1024 .f32 := broadcastInDim S1024 ![] bcast_S_S1024 main_cst_3
  let main_v23 : IVec S1024 1 := cmpf .oeq main_arg6 main_v22
  let main_cst_4 : FVec F S_ .f32 := constant S_ .f32 0x00000000#32
  let main_v24 : FVec F S1024 .f32 := broadcastInDim S1024 ![] bcast_S_S1024 main_cst_4
  let main_v25 : IVec S1024 1 := cmpf .oeq main_arg8 main_v24
  let main_cst_5 : FVec F S_ .f32 := constant S_ .f32 0xFF800000#32
  let main_v26 : FVec F S2x16x2048 .f32 := broadcastInDim S2x16x2048 ![] bcast_S_S2x16x2048 main_cst_5
  let main_v27 : IVec S2x16x2048 1 := cmpf .ogt main_v19 main_v26
  let main_cst_6 : FVec F S_ .f32 := constant S_ .f32 0x42700000#32
  let main_v28 : FVec F S2x16x2048 .f32 := broadcastInDim S2x16x2048 ![] bcast_S_S2x16x2048 main_cst_6
  let main_v29 : IVec S2x16x2048 1 := cmpf .ole main_v19 main_v28
  let main_v30 : IVec S2x16x2048 1 := andi main_v27 main_v29
  (main_v21, main_v23, main_v25, main_v30)

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S1024 1 × IVec S1024 1 × IVec S1024 1 × IVec S2x16x2048 1 :=
  let main_v0 : FVec F S1024x1024 .f32 := (transpose S1024x1024 [1, 0] · transposes_S1024x1024_S1024x1024_1_0) main_arg3
  let main_v1 : FVec F S2x2048x1024 .f32 := (fun l r => Host.dotGeneral dot_S2x2048x1024_S1024x1024_S2x2048x1024_2_0_01_1_n_n none l r) main_arg0 main_v0
  let main_v2 : FVec F S1x1x1024 .f32 := broadcastInDim S1x1x1024 ![2] bcast_S1024_S1x1x1024_2 main_arg4
  let main_v3 : FVec F S2x2048x1024 .f32 := broadcastInDim S2x2048x1024 ![0, 1, 2] bcast_S1x1x1024_S2x2048x1024_0_1_2 main_v2
  let main_v4 : FVec F S2x2048x1024 .f32 := addf main_v1 main_v3
  let main_v5 : FVec F S2x2048x16x64 .f32 := shapeCast S2x2048x16x64 main_v4 shapeCasts_S2x2048x1024_S2x2048x16x64
  let main_v6 : FVec F S2x16x2048x64 .f32 := (transpose S2x16x2048x64 [0, 2, 1, 3] · transposes_S2x2048x16x64_S2x16x2048x64_0_2_1_3) main_v5
  let main_v7 : FVec F S1024x1024 .f32 := (transpose S1024x1024 [1, 0] · transposes_S1024x1024_S1024x1024_1_0) main_arg5
  let main_v8 : FVec F S2x2048x1024 .f32 := (fun l r => Host.dotGeneral dot_S2x2048x1024_S1024x1024_S2x2048x1024_2_0_01_1_n_n none l r) main_arg1 main_v7
  let main_v9 : FVec F S1x1x1024 .f32 := broadcastInDim S1x1x1024 ![2] bcast_S1024_S1x1x1024_2 main_arg6
  let main_v10 : FVec F S2x2048x1024 .f32 := broadcastInDim S2x2048x1024 ![0, 1, 2] bcast_S1x1x1024_S2x2048x1024_0_1_2 main_v9
  let main_v11 : FVec F S2x2048x1024 .f32 := addf main_v8 main_v10
  let main_v12 : FVec F S2x2048x16x64 .f32 := shapeCast S2x2048x16x64 main_v11 shapeCasts_S2x2048x1024_S2x2048x16x64
  let main_v13 : FVec F S2x16x2048x64 .f32 := (transpose S2x16x2048x64 [0, 2, 1, 3] · transposes_S2x2048x16x64_S2x16x2048x64_0_2_1_3) main_v12
  let main_cst : FVec F S_ .f32 := constant S_ .f32 0x42800000#32
  let main_v14 : FVec F S_ .f32 := Host.sqrt main_cst
  let main_cst_0 : FVec F S_ .f32 := constant S_ .f32 0x3F800000#32
  let main_v15 : FVec F S_ .f32 := Host.divf main_cst_0 main_v14
  let main_v16 : FVec F S2x16x2048x2048 .f32 := (fun l r => Host.dotGeneral dot_S2x16x2048x64_S2x16x2048x64_S2x16x2048x2048_3_3_2_2_01_01 none l r) main_v6 main_v13
  let main_v17 : FVec F S2x16x2048x2048 .f32 := broadcastInDim S2x16x2048x2048 ![] bcast_S_S2x16x2048x2048 main_v15
  let main_v18 : FVec F S2x16x2048x2048 .f32 := mulf main_v16 main_v17
  let main_cst_1 : FVec F S_ .f32 := constant S_ .f32 0xFF800000#32
  let main_v19 : FVec F S2x16x2048 .f32 := (fun x v => Host.reduce FloatOps.maximumf x v reducesTo_S2x16x2048x2048_S2x16x2048_d3 h_S_) main_v18 main_cst_1
  let main_cst_2 : FVec F S_ .f32 := constant S_ .f32 0x00000000#32
  fn_part1 (F := F) main_arg4 main_arg6 main_arg8 main_v19 main_cst_2
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S16x2x64x2048 : Shape := ⟨4, ![16, 2, 64, 2048]⟩
abbrev S512x1024 : Shape := ⟨2, ![512, 1024]⟩
abbrev S16x1x64x512 : Shape := ⟨4, ![16, 1, 64, 512]⟩
abbrev S1024x512 : Shape := ⟨2, ![1024, 512]⟩
abbrev S16x64x512 : Shape := ⟨3, ![16, 64, 512]⟩
abbrev S1x1x64x512 : Shape := ⟨4, ![1, 1, 64, 512]⟩
abbrev S1x1x64x2048 : Shape := ⟨4, ![1, 1, 64, 2048]⟩
abbrev S64x512 : Shape := ⟨2, ![64, 512]⟩
abbrev S64x2048 : Shape := ⟨2, ![64, 2048]⟩
abbrev S2048x512 : Shape := ⟨2, ![2048, 512]⟩
abbrev S512 : Shape := ⟨1, ![512]⟩
abbrev S1x512 : Shape := ⟨2, ![1, 512]⟩
abbrev S1x1024 : Shape := ⟨2, ![1, 1024]⟩

abbrev nBuf : Space → Nat
  | .hbm => 26
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S16x2x64x2048, .f32⟩
  | .hbm, ⟨20, _⟩ => ⟨S16x2x64x2048, .f32⟩
  | .hbm, ⟨21, _⟩ => ⟨S16x2x64x2048, .f32⟩
  | .hbm, ⟨22, _⟩ => ⟨S16x2x64x2048, .f32⟩
  | .hbm, ⟨23, _⟩ => ⟨S1x1024, .f32⟩
  | .hbm, ⟨24, _⟩ => ⟨S4096x1024, .f32⟩
  | .hbm, ⟨25, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S16x1x64x512, .f32⟩
  | .local _ .vmem, ⟨10, _⟩ => ⟨S16x1x64x512, .f32⟩
  | .local _ .vmem, ⟨11, _⟩ => ⟨S16x1x64x512, .f32⟩
  | .local _ .vmem, ⟨12, _⟩ => ⟨S16x1x64x512, .f32⟩
  | .local _ .vmem, ⟨13, _⟩ => ⟨S16x1x64x512, .f32⟩
  | .local _ .vmem, ⟨14, _⟩ => ⟨S16x1x64x512, .f32⟩
  | .local _ .vmem, ⟨15, _⟩ => ⟨S1x1x64x512, .f32⟩
  | .local _ .vmem, ⟨16, _⟩ => ⟨S1x1x64x512, .f32⟩
  | .local _ .vmem, ⟨17, _⟩ => ⟨S1x1x64x2048, .f32⟩
  | .local _ .vmem, ⟨18, _⟩ => ⟨S1x1x64x2048, .f32⟩
  | .local _ .vmem, ⟨19, _⟩ => ⟨S1x1x64x2048, .f32⟩
  | .local _ .vmem, ⟨20, _⟩ => ⟨S1x1x64x2048, .f32⟩
  | .local _ .vmem, ⟨21, _⟩ => ⟨S1x1x64x512, .f32⟩
  | .local _ .vmem, ⟨22, _⟩ => ⟨S1x1x64x512, .f32⟩
  | .local _ .vmem, ⟨23, _⟩ => ⟨S16x1x64x512, .f32⟩
  | .local _ .vmem, ⟨24, _⟩ => ⟨S16x1x64x512, .f32⟩
  | .local _ .vmem, ⟨25, _⟩ => ⟨S1024x1024, .bf16⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![32, 4], ![false, false]⟩

def cc1_transform_0 (i : grid1.Coords) : Fin 4 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

def cc1_transform_1 (i : grid1.Coords) : Fin 4 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc1_transform_3 (i : grid1.Coords) : Fin 4 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat, arg1.toNat]

abbrev stage1_0 : Fin 2 → Memref sig .tc .vmem S1x1x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x64x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1x64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S1024x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x16x64, .f32⟩
  | .hbm, ⟨24, _⟩ => ⟨S2x16x2048x64, .f32⟩
  | .hbm, ⟨25, _⟩ => ⟨S1024x1024, .f32⟩
  | .hbm, ⟨26, _⟩ => ⟨S2x2048x1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S2x2048x16x64, .f32⟩
  | .hbm, ⟨31, _⟩ => ⟨S2x16x2048x64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x16x2048x2048, .f32⟩
  | .hbm, ⟨37, _⟩ => ⟨S2x16x2048x2048, .f32⟩
  | .hbm, ⟨38, _⟩ => ⟨S2x16x2048x2048, .f32⟩
  | .hbm, ⟨39, _⟩ => ⟨S_, .f32⟩
  | .hbm, ⟨40, _⟩ => ⟨S2x16x2048, .f32⟩
  | .hbm, ⟨41, _⟩ => ⟨S_, .f32⟩
  | .hbm, ⟨42, _⟩ => ⟨S2x16x2048, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S2x16x2048x1, .f32⟩
  | .hbm, ⟨51, _⟩ => ⟨S2x16x2048x2048, .f32⟩
  | .hbm, ⟨52, _⟩ => ⟨S2x16x2048x2048, .f32⟩
  | .hbm, ⟨53, _⟩ => ⟨S2x16x2048x64, .f32⟩
  | .hbm, ⟨54, _⟩ => ⟨S2x2048x16x64, .f32⟩
  | .hbm, ⟨55, _⟩ => ⟨S2x2048x1024, .f32⟩
  | .hbm, ⟨56, _⟩ => ⟨S1024x1024, .f32⟩
  | .hbm, ⟨57, _⟩ => ⟨S2x2048x1024, .f32⟩
  | .hbm, ⟨58, _⟩ => ⟨S1x1x1024, .f32⟩
  | .hbm, ⟨59, _⟩ => ⟨S2x2048x1024, .f32⟩
  | .hbm, ⟨60, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Proof.RefFrame.lean ====
/- The reference's run, read back with its semaphore counters: it is host operations only and declares no semaphore. -/
module

public import proofs.«01_k».proof.Proof.Gen.ReferenceIdeal.Run
public import Idealize.ShloMosaic.Lib.Quiescent
public import Idealize.ShloMosaic.PureOps.Ideal

@[expose] public section

noncomputable section

namespace Cert.RefFrame

open Idealize.ShloMosaic Idealize.ShloMosaic.TcCoe Idealize.SL.Sem Cert.ReferenceIdeal

/-- The reference terminates with its argument arrays unchanged and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2, sem_eq_zero_of_no_sems (by decide) r.2⟩)
    (Cert.ReferenceIdeal.Value.run m ρ)

end Cert.RefFrame

end
-- ==== Proof.KernelRun.lean ====
/- The kernel's run with its result: when @main ends, every buffer holds what the last boundary says it holds, and the
   result array is read back through the boundaries to the arguments. -/
module

public import proofs.«01_k».proof.Proof.Gen.KernelIdeal.Frame

@[expose] public section

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main terminates, and at its end every unscoped
    buffer holds the contents of the last segment boundary. -/
theorem ends : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

/-- The run with its result: the result array at the last boundary's contents, the arguments unchanged. -/
theorem run : θ_run defs (onTc (τ := τ) (main (F := F))) ⟨m, fun _ => 0, ρ⟩ (fun r => ∀ c : Dev nD,
      r.2.mem ((c.tc : Thread nD τ).loc main_v12) = W6 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have arg (a : Ref sig .tc) (ha : a ∈ argRefs) (hu : ¬ (Proc.devRef .tc a : DevRef τ sig).isScoped) :
        r.2.mem ((c.tc : Thread nD τ).loc a) = m ((c.tc : Thread nD τ).loc a) :=
      (h c _ (mem_uc a hu)).trans (W6_args m ρ c a ha)
    ⟨h c _ (mem_uc main_v12 (by decide)), arg main_arg0 (by decide) (by decide), arg main_arg1 (by decide) (by decide),
      arg main_arg2 (by decide) (by decide), arg main_arg3 (by decide) (by decide), arg main_arg4 (by decide) (by decide),
      arg main_arg5 (by decide) (by decide), arg main_arg6 (by decide) (by decide), arg main_arg7 (by decide) (by decide),
      arg main_arg8 (by decide) (by decide), arg main_arg9 (by decide) (by decide), arg main_arg10 (by decide) (by decide)⟩)
    (ends m ρ)

end Cert.KernelIdeal.KernelRun

end
-- ==== Proof.Payload.lean ====
/- What one block of each of the three calls computes, read at an index, over the ideal reals. -/
module

public import proofs.«01_k».proof.Proof.Gen.KernelIdeal.Skeleton
public import Idealize.ShloMosaic.Lib.Pointwise

@[expose] public section

set_option maxRecDepth 16384

noncomputable section

namespace Cert.KernelIdeal.Payload

open Idealize.ShloMosaic Idealize.ShloMosaic.TcCoe Idealize.SL.Sem
open Cert.KernelIdeal Cert.KernelIdeal.Gen

/-- The weight of one key for one query: the exponential of the clamped score, the query scaled by one eighth first. -/
def weight (q k : Fin 64 → EReal) : EReal :=
  Ideal.exp (min (∑ i, k i * (q i * Ideal.ofBits .bf16 0x3E00#16)) (Ideal.ofBits .f32 0x42700000#32))

/-- One output of the attention call: the values weighted, summed, then divided by the sum of the weights. -/
def attend (q : Fin 64 → EReal) (k : Fin 2048 → Fin 64 → EReal) (v : Fin 2048 → EReal) : EReal :=
  Ideal.div (∑ x, v x * weight q (k x)) (∑ x, weight q (k x))

/-- The first projection's block: row `h * 64 + d` of the weights against row `s` of the input. -/
theorem pay0_1 (x : FVec Ideal S512x1024 .f32) (w : FVec Ideal S1024x1024 .bf16) (h : Fin 16) (z : Fin 1) (d : Fin 64) (s : Fin 512) :
    k0_pay1 (F := Ideal) x w (ix4 h z d s) = ∑ i : Fin 1024, w (ix2 ⟨h.val * 64 + d.val, by omega⟩ i) * x (ix2 s i) := by
  pointwise! [k0_pay1]

/-- The second projection's block, likewise. -/
theorem pay0_2 (x : FVec Ideal S512x1024 .f32) (w : FVec Ideal S1024x1024 .bf16) (h : Fin 16) (z : Fin 1) (d : Fin 64) (s : Fin 512) :
    k0_pay2 (F := Ideal) x w (ix4 h z d s) = ∑ i : Fin 1024, w (ix2 ⟨h.val * 64 + d.val, by omega⟩ i) * x (ix2 s i) := by
  pointwise! [k0_pay2]

/-- The third projection's block, likewise. -/
theorem pay0_3 (x : FVec Ideal S512x1024 .f32) (w : FVec Ideal S1024x1024 .bf16) (h : Fin 16) (z : Fin 1) (d : Fin 64) (s : Fin 512) :
    k0_pay3 (F := Ideal) x w (ix4 h z d s) = ∑ i : Fin 1024, w (ix2 ⟨h.val * 64 + d.val, by omega⟩ i) * x (ix2 s i) := by
  pointwise! [k0_pay3]

/-- The attention block: column `s` of the queries attends over all the keys. -/
theorem pay1 (q : FVec Ideal S1x1x64x512 .f32) (k v : FVec Ideal S1x1x64x2048 .f32) (z z' : Fin 1) (d : Fin 64) (s : Fin 512) :
    k1_pay1 (F := Ideal) q k v (ix4 z z' d s)
      = attend (fun i => q (ix4 0 0 i s)) (fun x i => k (ix4 0 0 i x)) (fun x => v (ix4 0 0 d x)) := by
  unfold attend weight
  pointwise! [k1_pay1]

/-- The output projection's block: the heads' columns joined, against a column of the transposed weights, plus the bias. -/
theorem pay2 (x : FVec Ideal S16x1x64x512 .f32) (w : FVec Ideal S1024x1024 .bf16) (b : FVec Ideal S1x1024 .f32) (s : Fin 512) (e : Fin 1024) :
    k2_pay1 (F := Ideal) x w b (ix2 s e)
      = ∑ j : Fin 1024, x (ix4 ⟨j.val / 64, by omega⟩ 0 ⟨j.val % 64, by omega⟩ s) * w (ix2 j e) + b (ix2 0 e) := by
  pointwise! [k2_pay1]

end Cert.KernelIdeal.Payload

end
-- ==== Proof.Region0.lean ====
/- The projection call: what its three output arrays hold when it ends, as functions of the arrays it reads. -/
module

public import proofs.«01_k».proof.Proof.Payload
public import proofs.«01_k».proof.Proof.Gen.KernelIdeal.Frame
public import Idealize.ShloMosaic.Lib.Pipeline.ValueKit

@[expose] public section

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen

/-- A projection, laid out head by head and transposed: entry (h, b, d, s) is row `h * 64 + d` of the weights against
    row `b * 2048 + s` of the input. -/
def proj (X : FVec Ideal S4096x1024 .f32) (W : FVec Ideal S1024x1024 .bf16) (h : Fin 16) (b : Fin 2) (d : Fin 64)
    (s : Fin 2048) : EReal :=
  ∑ i : Fin 1024, W (ix2 ⟨h.val * 64 + d.val, by omega⟩ i) * X (ix2 ⟨b.val * 2048 + s.val, by omega⟩ i)

/-- The whole projected array. -/
def projArr (X : FVec Ideal S4096x1024 .f32) (W : FVec Ideal S1024x1024 .bf16) : FVec Ideal S16x2x64x2048 .f32 :=
  fun j => proj X W (j 0) (j 1) (j 2) (j 3)

/-- The block each window takes at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![0, t.val / 4, 0, t.val % 4] ∧ win0_7.index t = ![0, t.val / 4, 0, t.val % 4]
    ∧ win0_8.index t = ![0, t.val / 4, 0, t.val % 4] :=
  (by decide +kernel : ∀ t : Fin grid0.N, _)

variable (V : (c : Dev nD) → (b : Ref sig .tc) → Buf (Elt Ideal) ((c : Thread nD τ).loc b))

/-- The first output array: the projection of the first input by the first weights. -/
theorem final6 (c : Dev nD) : (dat0 V c).arrAt 6 cfg0.N = projArr (V c main_v0) (V c main_v3) := by
  refine (dat0 V c).arrAt_eq_of_covers 6 _ (by decide +kernel) fun t _ y => ?_
  blk_simp
  rw [after0_6]; frame_out
  idx_vars y
  refine (Payload.pay0_1 _ _ _ _ _ _).trans ?_
  unfold projArr proj
  blk_point [iblk0, idx t]

/-- The second output array: the projection of the second input by the second weights. -/
theorem final7 (c : Dev nD) : (dat0 V c).arrAt 7 cfg0.N = projArr (V c main_v1) (V c main_v4) := by
  refine (dat0 V c).arrAt_eq_of_covers 7 _ (by decide +kernel) fun t _ y => ?_
  blk_simp
  rw [after0_7]; frame_out
  idx_vars y
  refine (Payload.pay0_2 _ _ _ _ _ _).trans ?_
  unfold projArr proj
  blk_point [iblk0, idx t]

/-- The third output array: the projection of the third input by the third weights. -/
theorem final8 (c : Dev nD) : (dat0 V c).arrAt 8 cfg0.N = projArr (V c main_v2) (V c main_v5) := by
  refine (dat0 V c).arrAt_eq_of_covers 8 _ (by decide +kernel) fun t _ y => ?_
  blk_simp
  rw [after0_8]; frame_out
  idx_vars y
  refine (Payload.pay0_3 _ _ _ _ _ _).trans ?_
  unfold projArr proj
  blk_point [iblk0, idx t]

end Cert.KernelIdeal.Region0

end
-- ==== Proof.Region1.lean ====
/- The attention call: what its output array holds when it ends, as a function of the three projected arrays. -/
module

public import proofs.«01_k».proof.Proof.Payload
public import proofs.«01_k».proof.Proof.Gen.KernelIdeal.Frame
public import Idealize.ShloMosaic.Lib.Pipeline.ValueKit

@[expose] public section

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen

/-- Head `h` of batch `b`: column `s` of the queries attends over every column of the keys and of the values. -/
def ctx (q k v : FVec Ideal S16x2x64x2048 .f32) (h : Fin 16) (b : Fin 2) (d : Fin 64) (s : Fin 2048) : EReal :=
  Payload.attend (fun i => q (ix4 h b i s)) (fun x i => k (ix4 h b i x)) (fun x => v (ix4 h b d x))

/-- The whole array of attended values. -/
def ctxArr (q k v : FVec Ideal S16x2x64x2048 .f32) : FVec Ideal S16x2x64x2048 .f32 :=
  fun j => ctx q k v (j 0) (j 1) (j 2) (j 3)

/-- The block each window takes at each grid point. -/
theorem idx : ∀ t : Fin cfg1.N, win1_0.index t = ![t.val / 4 % 16, t.val / 64, 0, t.val % 4]
    ∧ win1_1.index t = ![t.val / 4 % 16, t.val / 64, 0, 0] ∧ win1_2.index t = ![t.val / 4 % 16, t.val / 64, 0, 0]
    ∧ win1_3.index t = ![t.val / 4 % 16, t.val / 64, 0, t.val % 4] :=
  (by decide +kernel : ∀ t : Fin grid1.N, _)

variable (V : (c : Dev nD) → (b : Ref sig .tc) → Buf (Elt Ideal) ((c : Thread nD τ).loc b))

set_option maxHeartbeats 1600000 in
/-- The output array holds every head's attended values. -/
theorem final3 (c : Dev nD) : (dat1 V c).arrAt 3 cfg1.N = ctxArr (V c main_v8_0) (V c main_v8_1) (V c main_v8_2) := by
  refine (dat1 V c).arrAt_eq_of_covers 3 _ (by decide +kernel) fun t _ y => ?_
  blk_simp
  rw [after1_3]; frame_out
  idx_vars y
  refine (Payload.pay1 _ _ _ _ _ _ _).trans ?_
  unfold ctxArr ctx
  refine congr (congr (congrArg Payload.attend (funext fun i => ?_)) (funext fun x => funext fun i => ?_)) (funext fun x => ?_)
  · blk_ext [iblk1, idx t]
  · blk_ext [iblk1, idx t]
  · blk_ext [iblk1, idx t]

end Cert.KernelIdeal.Region1

end
-- ==== Proof.Region2.lean ====
/- The output projection's call: what its output array holds when it ends, as a function of the attended values, the
   transposed weights and the bias. -/
module

public import proofs.«01_k».proof.Proof.Payload
public import proofs.«01_k».proof.Proof.Gen.KernelIdeal.Frame
public import Idealize.ShloMosaic.Lib.Pipeline.ValueKit

@[expose] public section

set_option maxRecDepth 16384

noncomputable section

namespace Cert.KernelIdeal.Region2

open Idealize.ShloMosaic Idealize.ShloMosaic.TcCoe Idealize.SL.Sem
open Idealize.ShloMosaic.Pipeline (Dat)
open Cert.KernelIdeal Cert.KernelIdeal.Gen

/-- Row `r` (batch `r / 2048`, position `r % 2048`) of the joined heads against column `e` of the transposed weights,
    plus the bias. -/
def out (X : FVec Ideal S16x2x64x2048 .f32) (W : FVec Ideal S1024x1024 .bf16) (B : FVec Ideal S1x1024 .f32)
    (r : Fin 4096) (e : Fin 1024) : EReal :=
  ∑ j : Fin 1024, X (ix4 ⟨j.val / 64, by omega⟩ ⟨r.val / 2048, by omega⟩ ⟨j.val % 64, by omega⟩ ⟨r.val % 2048, by omega⟩)
    * W (ix2 j e) + B (ix2 0 e)

/-- The whole output array. -/
def outArr (X : FVec Ideal S16x2x64x2048 .f32) (W : FVec Ideal S1024x1024 .bf16) (B : FVec Ideal S1x1024 .f32) :
    FVec Ideal S4096x1024 .f32 :=
  fun j => out X W B (j 0) (j 1)

/-- The block each window takes at each grid point. -/
theorem idx : ∀ t : Fin cfg2.N, win2_0.index t = ![0, t.val / 4, 0, t.val % 4] ∧ win2_1.index t = ![0, 0]
    ∧ win2_2.index t = ![0, 0] ∧ win2_3.index t = ![t.val, 0] :=
  (by decide +kernel : ∀ t : Fin grid2.N, _)

variable (V : (c : Dev nD) → (b : Ref sig .tc) → Buf (Elt Ideal) ((c : Thread nD τ).loc b))

/-- The output array holds the projected rows. -/
theorem final3 (c : Dev nD) : (dat2 V c).arrAt 3 cfg2.N = outArr (V c main_v9) (V c main_v7) (V c main_v10) := by
  refine (dat2 V c).arrAt_eq_of_covers 3 _ (by decide +kernel) fun t _ y => ?_
  blk_simp
  rw [after2_3]; frame_out
  idx_vars y
  refine (Payload.pay2 _ _ _ _ _).trans ?_
  unfold outArr out
  blk_point [iblk2, idx t]

end Cert.KernelIdeal.Region2

end
-- ==== Proof.KernelValue.lean ====
/- The kernel's result array as one function of its arguments: the three calls' arrays chained, each host operation
   between them read through. -/
module

public import proofs.«01_k».proof.Proof.Region0
public import proofs.«01_k».proof.Proof.Region1
public import proofs.«01_k».proof.Proof.Region2
public import Idealize.ShloMosaic.Lib.StableHlo.Run

@[expose] public section

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen

/-- One head's projection of an input: row `h * 64 + d` of the weights against row `s` of batch `b`. -/
def head (x : FVec Ideal S2x2048x1024 .f32) (W : FVec Ideal S1024x1024 .f32) (h : Fin 16) (b : Fin 2) (d : Fin 64)
    (s : Fin 2048) : EReal :=
  ∑ i : Fin 1024, W (ix2 ⟨h.val * 64 + d.val, by omega⟩ i) * x (ix3 b s i)

/-- One head's attended values, from the inputs and the weights. -/
def headOut (x0 x1 x2 : FVec Ideal S2x2048x1024 .f32) (w3 w5 w7 : FVec Ideal S1024x1024 .f32) (h : Fin 16) (b : Fin 2)
    (d : Fin 64) (s : Fin 2048) : EReal :=
  Payload.attend (fun i => head x0 w3 h b i s) (fun x i => head x1 w5 h b i x) (fun x => head x2 w7 h b d x)

/-- The kernel's result at batch `b`, position `s`, feature `e`. -/
def result (x0 x1 x2 : FVec Ideal S2x2048x1024 .f32) (w3 w5 w7 w9 : FVec Ideal S1024x1024 .f32)
    (b10 : FVec Ideal S1024 .f32) (b : Fin 2) (s : Fin 2048) (e : Fin 1024) : EReal :=
  ∑ j : Fin 1024, headOut x0 x1 x2 w3 w5 w7 ⟨j.val / 64, by omega⟩ b ⟨j.val % 64, by omega⟩ s * w9 (ix2 e j) + b10 (ix1 e)

variable (m : (ℓ : Loc nD τ sig) → Buf (Elt Ideal) ℓ) (ρ : Dev nD → PrngReg)

/-! What the first host operations leave. -/

/-- The matrix of all rows of both batches holds at row `b * 2048 + s` the input's row `s` of batch `b`. -/
theorem rows (x : FVec Ideal S2x2048x1024 .f32) (b : Fin 2) (s : Fin 2048) (i : Fin 1024) :
    (shapeCast S4096x1024 x shapeCasts_S2x2048x1024_S4096x1024 : FVec Ideal S4096x1024 .f32)
      (ix2 ⟨b.val * 2048 + s.val, by omega⟩ i) = x (ix3 b s i) := by
  pointwise

/-- The first call's input 0 is argument 0 with its batches stacked. -/
theorem entry_v0 (c : Dev nD) : (V1 m ρ c main_v0 : FVec Ideal S4096x1024 .f32)
    = shapeCast S4096x1024 (m ((c : Thread nD τ).loc main_arg0)) shapeCasts_S2x2048x1024_S4096x1024 := by
  show StableHlo.after hostOps0 (W0 m ρ c) (Proc.devRef .tc main_v0) = _
  after_results
  rfl

/-- The first call's weights 0 are argument 3. -/
theorem entry_v3 (c : Dev nD) : (V1 m ρ c main_v3 : FVec Ideal S1024x1024 .bf16) = m ((c : Thread nD τ).loc main_arg3) := by
  show StableHlo.after hostOps0 (W0 m ρ c) (Proc.devRef .tc main_v3) = _
  after_results
  rfl

/-- The first call's input 1 is argument 1 with its batches stacked. -/
theorem entry_v1 (c : Dev nD) : (V1 m ρ c main_v1 : FVec Ideal S4096x1024 .f32)
    = shapeCast S4096x1024 (m ((c : Thread nD τ).loc main_arg1)) shapeCasts_S2x2048x1024_S4096x1024 := by
  show StableHlo.after hostOps0 (W0 m ρ c) (Proc.devRef .tc main_v1) = _
  after_results
  rfl

/-- The first call's weights 1 are argument 5. -/
theorem entry_v4 (c : Dev nD) : (V1 m ρ c main_v4 : FVec Ideal S1024x1024 .bf16) = m ((c : Thread nD τ).loc main_arg5) := by
  show StableHlo.after hostOps0 (W0 m ρ c) (Proc.devRef .tc main_v4) = _
  after_results
  rfl

/-- The first call's input 2 is argument 2 with its batches stacked. -/
theorem entry_v2 (c : Dev nD) : (V1 m ρ c main_v2 : FVec Ideal S4096x1024 .f32)
    = shapeCast S4096x1024 (m ((c : Thread nD τ).loc main_arg2)) shapeCasts_S2x2048x1024_S4096x1024 := by
  show StableHlo.after hostOps0 (W0 m ρ c) (Proc.devRef .tc main_v2) = _
  after_results
  rfl

/-- The first call's weights 2 are argument 7. -/
theorem entry_v5 (c : Dev nD) : (V1 m ρ c main_v5 : FVec Ideal S1024x1024 .bf16) = m ((c : Thread nD τ).loc main_arg7) := by
  show StableHlo.after hostOps0 (W0 m ρ c) (Proc.devRef .tc main_v5) = _
  after_results
  rfl

/-- The last call's weights are argument 9 transposed. -/
theorem entry_v7 (c : Dev nD) (j e : Fin 1024) : (W1 m ρ c (Proc.devRef .tc main_v7) : FVec Ideal S1024x1024 .bf16) (ix2 j e)
    = (m ((c : Thread nD τ).loc main_arg9) : FVec Ideal S1024x1024 .f32) (ix2 e j) := by
  show StableHlo.after hostOps0 (W0 m ρ c) (Proc.devRef .tc main_v7) _ = _
  after_results
  pointwise

/-! What the calls leave. -/

/-- The first call's queries, every head. -/
theorem head_v8_0 (c : Dev nD) (h : Fin 16) (b : Fin 2) (d : Fin 64) (s : Fin 2048) :
    (V2 m ρ c main_v8_0 : FVec Ideal S16x2x64x2048 .f32) (ix4 h b d s)
      = head (m ((c : Thread nD τ).loc main_arg0)) (m ((c : Thread nD τ).loc main_arg3)) h b d s := by
  have e : (V2 m ρ c main_v8_0 : FVec Ideal S16x2x64x2048 .f32) = Region0.projArr (V1 m ρ c main_v0) (V1 m ρ c main_v3) :=
    (W2_arr m ρ c 6).trans (Region0.final6 (V1 m ρ) c)
  rw [e, entry_v0, entry_v3]
  show Region0.proj _ _ h b d s = _
  unfold Region0.proj head
  refine Finset.sum_congr rfl fun i _ => ?_
  rw [rows]

/-- The first call's keys, every head. -/
theorem head_v8_1 (c : Dev nD) (h : Fin 16) (b : Fin 2) (d : Fin 64) (s : Fin 2048) :
    (V2 m ρ c main_v8_1 : FVec Ideal S16x2x64x2048 .f32) (ix4 h b d s)
      = head (m ((c : Thread nD τ).loc main_arg1)) (m ((c : Thread nD τ).loc main_arg5)) h b d s := by
  have e : (V2 m ρ c main_v8_1 : FVec Ideal S16x2x64x2048 .f32) = Region0.projArr (V1 m ρ c main_v1) (V1 m ρ c main_v4) :=
    (W2_arr m ρ c 7).trans (Region0.final7 (V1 m ρ) c)
  rw [e, entry_v1, entry_v4]
  show Region0.proj _ _ h b d s = _
  unfold Region0.proj head
  refine Finset.sum_congr rfl fun i _ => ?_
  rw [rows]

/-- The first call's values, every head. -/
theorem head_v8_2 (c : Dev nD) (h : Fin 16) (b : Fin 2) (d : Fin 64) (s : Fin 2048) :
    (V2 m ρ c main_v8_2 : FVec Ideal S16x2x64x2048 .f32) (ix4 h b d s)
      = head (m ((c : Thread nD τ).loc main_arg2)) (m ((c : Thread nD τ).loc main_arg7)) h b d s := by
  have e : (V2 m ρ c main_v8_2 : FVec Ideal S16x2x64x2048 .f32) = Region0.projArr (V1 m ρ c main_v2) (V1 m ρ c main_v5) :=
    (W2_arr m ρ c 8).trans (Region0.final8 (V1 m ρ) c)
  rw [e, entry_v2, entry_v5]
  show Region0.proj _ _ h b d s = _
  unfold Region0.proj head
  refine Finset.sum_congr rfl fun i _ => ?_
  rw [rows]

/-- The second call's array: every head's attended values. -/
theorem ctx_v9 (c : Dev nD) (h : Fin 16) (b : Fin 2) (d : Fin 64) (s : Fin 2048) :
    (V4 m ρ c main_v9 : FVec Ideal S16x2x64x2048 .f32) (ix4 h b d s)
      = headOut (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg7)) h b d s := by
  have e : (V4 m ρ c main_v9 : FVec Ideal S16x2x64x2048 .f32)
      = Region1.ctxArr (V2 m ρ c main_v8_0) (V2 m ρ c main_v8_1) (V2 m ρ c main_v8_2) :=
    (W4_of m ρ c main_v9 (by decide)).trans ((W3_arr m ρ c 3).trans (Region1.final3 (V2 m ρ) c))
  rw [e]
  exact congr (congr (congrArg Payload.attend (funext fun i => head_v8_0 m ρ c h b i s))
    (funext fun x => funext fun i => head_v8_1 m ρ c h b i x)) (funext fun x => head_v8_2 m ρ c h b d x)

/-- The last call's weights are still argument 9 transposed when it begins. -/
theorem late_v7 (c : Dev nD) (j e : Fin 1024) : (V4 m ρ c main_v7 : FVec Ideal S1024x1024 .bf16) (ix2 j e)
    = (m ((c : Thread nD τ).loc main_arg9) : FVec Ideal S1024x1024 .f32) (ix2 e j) := by
  have h : (V4 m ρ c main_v7 : FVec Ideal S1024x1024 .bf16) = W1 m ρ c (Proc.devRef .tc main_v7) :=
    (W4_of m ρ c main_v7 (by decide)).trans ((W3_of m ρ c main_v7 (by decide)).trans (W2_of m ρ c main_v7 (by decide)))
  rw [h]
  exact entry_v7 m ρ c j e

/-- The last call's bias row is argument 10. -/
theorem late_v10 (c : Dev nD) (e : Fin 1024) : (V4 m ρ c main_v10 : FVec Ideal S1x1024 .f32) (ix2 0 e)
    = (m ((c : Thread nD τ).loc main_arg10) : FVec Ideal S1024 .f32) (ix1 e) := by
  have h : (W3 m ρ c (Proc.devRef .tc main_arg10) : FVec Ideal S1024 .f32) = m ((c : Thread nD τ).loc main_arg10) :=
    W3_args m ρ c main_arg10 (by decide)
  show StableHlo.after hostOps2 (W3 m ρ c) (Proc.devRef .tc main_v10) _ = _
  rw [← h]
  generalize W3 m ρ c = w
  after_results
  pointwise

/-- The result array at every index. -/
theorem result_eq (c : Dev nD) (b : Fin 2) (s : Fin 2048) (e : Fin 1024) :
    (W6 m ρ c (Proc.devRef .tc main_v12) : FVec Ideal S2x2048x1024 .f32) (ix3 b s e)
      = result (m ((c : Thread nD τ).loc main_arg0)) (m ((c : Thread nD τ).loc main_arg1)) (m ((c : Thread nD τ).loc main_arg2))
          (m ((c : Thread nD τ).loc main_arg3)) (m ((c : Thread nD τ).loc main_arg5)) (m ((c : Thread nD τ).loc main_arg7))
          (m ((c : Thread nD τ).loc main_arg9)) (m ((c : Thread nD τ).loc main_arg10)) b s e := by
  have h : (W5 m ρ c (Proc.devRef .tc main_v11) : FVec Ideal S4096x1024 .f32)
      = Region2.outArr (V4 m ρ c main_v9) (V4 m ρ c main_v7) (V4 m ρ c main_v10) :=
    (W5_arr m ρ c 3).trans (Region2.final3 (V4 m ρ) c)
  have r : (W6 m ρ c (Proc.devRef .tc main_v12) : FVec Ideal S2x2048x1024 .f32) (ix3 b s e)
      = (W5 m ρ c (Proc.devRef .tc main_v11) : FVec Ideal S4096x1024 .f32) (ix2 ⟨b.val * 2048 + s.val, by omega⟩ e) := by
    show StableHlo.after hostOps3 (W5 m ρ c) (Proc.devRef .tc main_v12) _ = _
    generalize W5 m ρ c = w
    after_results
    pointwise
  rw [r, h]
  show Region2.out _ _ _ ⟨b.val * 2048 + s.val, by omega⟩ e = _
  unfold Region2.out result
  rw [late_v10]
  refine congrArg (· + _) (Finset.sum_congr rfl fun j _ => ?_)
  rw [late_v7]
  refine congrArg (· * _) ?_
  refine Eq.trans (congrArg (V4 m ρ c main_v9 : FVec Ideal S16x2x64x2048 .f32) ?_) (ctx_v9 m ρ c _ b _ s)
  exact congr (congr (congrArg (ix4 (⟨j.val / 64, by omega⟩ : Fin 16)) (Fin.ext (by show (b.val * 2048 + s.val) / 2048 = b.val; omega)))
    (rfl : (⟨j.val % 64, by omega⟩ : Fin 64) = _)) (Fin.ext (by show (b.val * 2048 + s.val) % 2048 = s.val; omega))

end Cert.KernelIdeal.KernelValue

end
-- ==== Proof.Softmax.lean ====
/- The arithmetic of the claim, over the extended reals: a weighted average normalised once at the end, with the bare
   exponentials, is the average by the shifted and normalised weights; and the scores scaled before or after the
   product agree. -/
module

public import Idealize.ShloMosaic.PureOps.Ideal
public import Idealize.ShloMosaic.PureOps.Ideal.Laws
public import Idealize.ShloMosaic.Lib.IdealHost

@[expose] public section

noncomputable section

namespace Cert.Softmax

open Idealize.ShloMosaic

/-- A sum times a non-negative real is the sum of the products, whatever infinities it holds. -/
theorem sum_mul_real {n : ℕ} (f : Fin n → EReal) (c : ℝ) (hc : 0 ≤ c) :
    (∑ i, f i) * (c : EReal) = ∑ i, f i * (c : EReal) := by
  have h0 : (0 : EReal) ≤ (c : EReal) := by exact_mod_cast hc
  induction n with
  | zero => simp
  | succ n ih =>
    rw [Fin.sum_univ_succ, Fin.sum_univ_succ, mul_comm, EReal.left_distrib_of_nonneg_of_ne_top h0 (EReal.coe_ne_top c),
      mul_comm (c : EReal), mul_comm (c : EReal), ih]

/-- The sum of reals, read in the extended reals. -/
theorem coe_sum {n : ℕ} (a : Fin n → ℝ) : ∑ i, ((a i : ℝ) : EReal) = ((∑ i, a i : ℝ) : EReal) := by
  induction n with
  | zero => simp
  | succ n ih => rw [Fin.sum_univ_succ, Fin.sum_univ_succ, ih, EReal.coe_add]

/-- Dividing by a positive real is multiplying by its inverse. -/
theorem div_pos (x : EReal) {y : ℝ} (hy : 0 < y) : Ideal.div x (y : EReal) = x * ((y⁻¹ : ℝ) : EReal) := by
  have h : (y : EReal) ≠ 0 := by exact_mod_cast hy.ne'
  rw [Ideal.div, if_neg h, EReal.coe_inv]

/-- The exponential of anything but plus infinity is a non-negative real. -/
theorem exp_real (s : EReal) (h : s ≠ ⊤) : ∃ a : ℝ, 0 ≤ a ∧ Ideal.exp s = (a : EReal)
    ∧ ∀ M : ℝ, Ideal.exp (s - (M : EReal)) = ((a * Real.exp (-M) : ℝ) : EReal) := by
  induction s with
  | bot => exact ⟨0, le_rfl, by simp, fun M => by simp⟩
  | top => exact absurd rfl h
  | coe r =>
    refine ⟨Real.exp r, (Real.exp_pos r).le, Ideal.exp_coe r, fun M => ?_⟩
    rw [← EReal.coe_sub, Ideal.exp_coe, ← Real.exp_add, sub_eq_add_neg]

/-- Where the scores have a real maximum, normalising once after the product is normalising every weight before it, and
    the shift by the maximum makes no difference. -/
theorem average_eq {n : ℕ} (s v : Fin n → EReal) (m : EReal) (hle : ∀ x, s x ≤ m) (hex : ∃ x, s x = m) (hb : ⊥ < m)
    (ht : m < ⊤) :
    Ideal.div (∑ x, v x * Ideal.exp (s x)) (∑ x, Ideal.exp (s x))
      = ∑ x, Ideal.div (Ideal.exp (s x - m)) (∑ y, Ideal.exp (s y - m)) * v x := by
  lift m to ℝ using ⟨ht.ne, hb.ne'⟩
  choose a ha he hs using fun x => exp_real (s x) ((hle x).trans_lt ht).ne
  obtain ⟨x₀, hx₀⟩ := hex
  have ha₀ : 0 < a x₀ := by
    have := he x₀
    rw [hx₀, Ideal.exp_coe] at this
    exact (EReal.coe_eq_coe_iff.1 this) ▸ Real.exp_pos m
  have hA : 0 < ∑ x, a x := Finset.sum_pos' (fun x _ => ha x) ⟨x₀, Finset.mem_univ _, ha₀⟩
  have hc : 0 < Real.exp (-m) := Real.exp_pos _
  have hAc : 0 < ∑ x, a x * Real.exp (-m) := by rw [← Finset.sum_mul]; exact mul_pos hA hc
  simp only [he, hs, coe_sum]
  rw [div_pos _ hA, sum_mul_real _ _ (inv_nonneg.2 hA.le)]
  refine Finset.sum_congr rfl fun x _ => ?_
  rw [div_pos _ hAc, mul_assoc, mul_comm, ← EReal.coe_mul, ← EReal.coe_mul]
  congr 2
  rw [← Finset.sum_mul]
  field_simp

/-- The literal one eighth. -/
theorem eighth : Ideal.ofBits .bf16 0x3E00#16 = ((1 / 8 : ℝ) : EReal) := by
  simp [Ideal.ofBits, Ideal.ieee, -EReal.coe_mul]; norm_num

/-- The literal sixty-four. -/
theorem sixty_four : Ideal.ofBits .f32 0x42800000#32 = ((64 : ℝ) : EReal) := by
  simp [Ideal.ofBits, Ideal.ieee, -EReal.coe_mul]; norm_num

/-- The literal sixty. -/
theorem sixty : Ideal.ofBits .f32 0x42700000#32 = ((60 : ℝ) : EReal) := by
  simp [Ideal.ofBits, Ideal.ieee, -EReal.coe_mul]; norm_num

/-- The literal minus infinity. -/
theorem neg_inf : Ideal.ofBits .f32 0xFF800000#32 = ⊥ := by
  simp [Ideal.ofBits, Ideal.ieee]

/-- One over the root of sixty-four is one eighth. -/
theorem scale_eq : Ideal.div 1 (Ideal.sqrt (Ideal.ofBits .f32 0x42800000#32)) = ((1 / 8 : ℝ) : EReal) := by
  have h : Real.sqrt 64 = 8 := by rw [show (64 : ℝ) = 8 ^ 2 by norm_num]; exact Real.sqrt_sq (by norm_num)
  rw [sixty_four, Ideal.sqrt_coe, if_neg (by norm_num), h, div_pos _ (by norm_num), one_mul, one_div]

/-- The score with the query scaled first is the score scaled last. -/
theorem score_eq {n : ℕ} (q k : Fin n → EReal) :
    ∑ i, k i * (q i * Ideal.ofBits .bf16 0x3E00#16)
      = (∑ i, q i * k i) * Ideal.div 1 (Ideal.sqrt (Ideal.ofBits .f32 0x42800000#32)) := by
  rw [eighth, scale_eq, sum_mul_real _ _ (by norm_num)]
  exact Finset.sum_congr rfl fun i _ => by rw [← mul_assoc, mul_comm (k i)]

/-- The maximum fold of finitely many extended reals from minus infinity: an upper bound, and attained if above minus
    infinity. -/
theorem fold_max {n : ℕ} (s : Fin n → EReal) :
    (∀ x, s x ≤ Finset.univ.fold max ⊥ s) ∧ (⊥ < Finset.univ.fold max ⊥ s → ∃ x, s x = Finset.univ.fold max ⊥ s) := by
  constructor
  · intro x
    exact (Finset.le_fold_max _).2 (.inr ⟨x, Finset.mem_univ _, le_rfl⟩)
  · intro h
    rcases (Finset.le_fold_max _).1 (le_refl (Finset.univ.fold max ⊥ s)) with h' | ⟨x, -, h'⟩
    · exact absurd (h.trans_le h') (lt_irrefl _)
    · exact ⟨x, le_antisymm ((Finset.le_fold_max _).2 (.inr ⟨x, Finset.mem_univ _, le_rfl⟩)) h'⟩

end Cert.Softmax

end
-- ==== Proof.RefValue.lean ====
/- What the reference computes, read one element at a time: its heads, its scores, its row maxima, its softmax weights
   and its result. -/
module

public import proofs.«01_k».proof.Proof.Gen.ReferenceIdeal.Read
public import Idealize.ShloMosaic.PureOps.Ideal
public import Idealize.ShloMosaic.Lib.Pointwise
public import proofs.«01_k».proof.Proof.Softmax

@[expose] public section

set_option maxRecDepth 16384

noncomputable section

namespace Cert.ReferenceIdeal.RefValue

open Idealize.ShloMosaic
open Cert.ReferenceIdeal Cert.ReferenceIdeal.Read

/-- One head of a projected input: row `s` of batch `b` against row `h * 64 + d` of the weights, and the bias. -/
def head (x : FVec Ideal S2x2048x1024 .f32) (W : FVec Ideal S1024x1024 .f32) (B : FVec Ideal S1024 .f32) (b : Fin 2)
    (h : Fin 16) (s : Fin 2048) (d : Fin 64) : EReal :=
  ∑ i : Fin 1024, x (ix3 b s i) * W (ix2 ⟨h.val * 64 + d.val, by omega⟩ i) + B (ix1 ⟨h.val * 64 + d.val, by omega⟩)

/-- The query heads. -/
theorem q_heads (x : FVec Ideal S2x2048x1024 .f32) (W : FVec Ideal S1024x1024 .f32) (B : FVec Ideal S1024 .f32) (b : Fin 2)
    (h : Fin 16) (s : Fin 2048) (d : Fin 64) :
    val_main_v6 (F := Ideal) x W B (ix4 b h s d) = head x W B b h s d := by
  unfold head
  pointwise [val_main_v6, val_main_v5, val_main_v4, val_main_v3, val_main_v2, val_main_v1, val_main_v0]

variable (x0 x1 x2 : FVec Ideal S2x2048x1024 .f32) (w3 w5 w7 w9 : FVec Ideal S1024x1024 .f32)
  (b4 b6 b8 b10 : FVec Ideal S1024 .f32)

/-- One scaled score: query row `s` against key row `x` of head `h` in batch `b`. -/
def score (b : Fin 2) (h : Fin 16) (s x : Fin 2048) : EReal :=
  (∑ i : Fin 64, head x0 w3 b4 b h s i * head x1 w5 b6 b h x i)
    * Ideal.div 1 (Ideal.sqrt (Ideal.ofBits .f32 0x42800000#32))

/-- The scaled scores. -/
theorem scores (b : Fin 2) (h : Fin 16) (s x : Fin 2048) :
    val_main_v25 (F := Ideal) x0 x1 w3 b4 w5 b6 (ix4 b h s x) = score x0 x1 w3 w5 b4 b6 b h s x := by
  have e : ∀ i, val_main_v13 (F := Ideal) x1 w5 b6 (ix4 b h x i) = head x1 w5 b6 b h x i := q_heads x1 w5 b6 b h x
  unfold score
  simp only [← e, ← q_heads]
  generalize hq : val_main_v6 (F := Ideal) x0 w3 b4 = q
  generalize hk : val_main_v13 (F := Ideal) x1 w5 b6 = k
  pointwise [val_main_v25, val_main_v24, val_main_v23, val_main_v22, val_main_v21, val_main_cst, val_main_cst_0, hq, hk]

/-- A row's largest score: the maximum of the row, started at minus infinity. -/
def top (b : Fin 2) (h : Fin 16) (s : Fin 2048) : EReal :=
  Finset.univ.fold max ⊥ fun x : Fin 2048 => score x0 x1 w3 w5 b4 b6 b h s x

/-- The row maxima. -/
theorem tops (b : Fin 2) (h : Fin 16) (s : Fin 2048) :
    val_main_v26 (F := Ideal) x0 x1 w3 b4 w5 b6 (ix3 b h s) = top x0 x1 w3 w5 b4 b6 b h s := by
  unfold top
  simp only [← scores]
  generalize hs : val_main_v25 (F := Ideal) x0 x1 w3 b4 w5 b6 = z
  rw [← Softmax.neg_inf]
  pointwise [val_main_v26, val_main_cst_1, hs]

/-- The row maxima once more taken against minus infinity. -/
theorem tops' (b : Fin 2) (h : Fin 16) (s : Fin 2048) :
    val_main_v28 (F := Ideal) x0 x1 w3 b4 w5 b6 (ix3 b h s) = top x0 x1 w3 w5 b4 b6 b h s := by
  rw [← tops, val_main_v28_apply, val_main_v27_apply, val_main_cst_2_apply]
  show max (Ideal.ofBits .f32 0xFF800000#32) _ = _
  rw [Softmax.neg_inf]
  exact max_eq_right bot_le

/-- The shifted exponentials. -/
theorem exps (b : Fin 2) (h : Fin 16) (s x : Fin 2048) :
    val_main_v32 (F := Ideal) x0 x1 w3 b4 w5 b6 (ix4 b h s x)
      = Ideal.exp (score x0 x1 w3 w5 b4 b6 b h s x - top x0 x1 w3 w5 b4 b6 b h s) := by
  rw [← scores, ← tops']
  generalize hs : val_main_v25 (F := Ideal) x0 x1 w3 b4 w5 b6 = z
  generalize ht : val_main_v28 (F := Ideal) x0 x1 w3 b4 w5 b6 = t
  pointwise [val_main_v32, val_main_v31, val_main_v30, val_main_v29, hs, ht]

/-- The softmax weights. -/
theorem weights (b : Fin 2) (h : Fin 16) (s x : Fin 2048) :
    val_main_v36 (F := Ideal) x0 x1 w3 b4 w5 b6 (ix4 b h s x)
      = Ideal.div (Ideal.exp (score x0 x1 w3 w5 b4 b6 b h s x - top x0 x1 w3 w5 b4 b6 b h s))
          (∑ y : Fin 2048, Ideal.exp (score x0 x1 w3 w5 b4 b6 b h s y - top x0 x1 w3 w5 b4 b6 b h s)) := by
  simp only [← exps]
  generalize hs : val_main_v32 (F := Ideal) x0 x1 w3 b4 w5 b6 = z
  pointwise [val_main_v36, val_main_v35, val_main_v34, val_main_v33, val_main_cst_3, hs]

/-- One head's attended values. -/
def attended (b : Fin 2) (h : Fin 16) (s : Fin 2048) (d : Fin 64) : EReal :=
  ∑ x : Fin 2048, Ideal.div (Ideal.exp (score x0 x1 w3 w5 b4 b6 b h s x - top x0 x1 w3 w5 b4 b6 b h s))
    (∑ y : Fin 2048, Ideal.exp (score x0 x1 w3 w5 b4 b6 b h s y - top x0 x1 w3 w5 b4 b6 b h s)) * head x2 w7 b8 b h x d

/-- The attended values. -/
theorem attendeds (b : Fin 2) (h : Fin 16) (s : Fin 2048) (d : Fin 64) :
    val_main_v37 (F := Ideal) x0 x1 x2 w3 b4 w5 b6 w7 b8 (ix4 b h s d) = attended x0 x1 x2 w3 w5 w7 b4 b6 b8 b h s d := by
  have e : ∀ x, val_main_v20 (F := Ideal) x2 w7 b8 (ix4 b h x d) = head x2 w7 b8 b h x d := fun x => q_heads x2 w7 b8 b h x d
  unfold attended
  simp only [← weights, ← e]
  generalize hp : val_main_v36 (F := Ideal) x0 x1 w3 b4 w5 b6 = p
  generalize hv : val_main_v20 (F := Ideal) x2 w7 b8 = v
  pointwise [val_main_v37, hp, hv]

/-- The attended values side by side: feature `j` is feature `j % 64` of head `j / 64`. -/
theorem merged (b : Fin 2) (s : Fin 2048) (j : Fin 1024) :
    val_main_v39 (F := Ideal) x0 x1 x2 w3 b4 w5 b6 w7 b8 (ix3 b s j)
      = attended x0 x1 x2 w3 w5 w7 b4 b6 b8 b ⟨j.val / 64, by omega⟩ s ⟨j.val % 64, by omega⟩ := by
  rw [← attendeds, val_main_v39_apply, val_main_v38_apply]
  refine congrArg (val_main_v37 (F := Ideal) x0 x1 x2 w3 b4 w5 b6 w7 b8) (funext fun a => Fin.ext ?_)
  have hb := b.isLt
  have hs := s.isLt
  have hj := j.isLt
  match a with
  | ⟨0, _⟩ => show ((b.val * 2048 + s.val) * 1024 + j.val) / 2097152 = b.val; omega
  | ⟨1, _⟩ => show ((b.val * 2048 + s.val) * 1024 + j.val) / 64 % 16 = j.val / 64; omega
  | ⟨2, _⟩ => show ((b.val * 2048 + s.val) * 1024 + j.val) / 1024 % 2048 = s.val; omega
  | ⟨3, _⟩ => show ((b.val * 2048 + s.val) * 1024 + j.val) % 64 = j.val % 64; omega

/-- The output projection without its bias. -/
theorem projected (b : Fin 2) (s : Fin 2048) (e : Fin 1024) :
    val_main_v41 (F := Ideal) x0 x1 x2 w3 b4 w5 b6 w7 b8 w9 (ix3 b s e)
      = ∑ j : Fin 1024, attended x0 x1 x2 w3 w5 w7 b4 b6 b8 b ⟨j.val / 64, by omega⟩ s ⟨j.val % 64, by omega⟩ * w9 (ix2 e j) := by
  rw [val_main_v41_apply]
  refine Finset.sum_congr rfl fun j _ => ?_
  rw [← merged, val_main_v40_apply]
  refine congr (congrArg HMul.hMul (congrArg (val_main_v39 (F := Ideal) x0 x1 x2 w3 b4 w5 b6 w7 b8) (funext fun a => ?_)))
    (congrArg w9 (funext fun a => ?_))
  · match a with
    | ⟨0, _⟩ => rfl
    | ⟨1, _⟩ => rfl
    | ⟨2, _⟩ => rfl
  · match a with
    | ⟨0, _⟩ => rfl
    | ⟨1, _⟩ => rfl

/-- The output bias, the same in every row. -/
theorem bias (b : Fin 2) (s : Fin 2048) (e : Fin 1024) :
    val_main_v43 (F := Ideal) b10 (ix3 b s e) = b10 (ix1 e) := by
  pointwise [val_main_v43, val_main_v42]

/-- The result at batch `b`, position `s`, feature `e`. -/
theorem result (b : Fin 2) (s : Fin 2048) (e : Fin 1024) :
    val_main_v44 (F := Ideal) x0 x1 x2 w3 b4 w5 b6 w7 b8 w9 b10 (ix3 b s e)
      = ∑ j : Fin 1024, attended x0 x1 x2 w3 w5 w7 b4 b6 b8 b ⟨j.val / 64, by omega⟩ s ⟨j.val % 64, by omega⟩ * w9 (ix2 e j)
        + b10 (ix1 e) := by
  rw [val_main_v44_apply, projected, bias]
  rfl

end Cert.ReferenceIdeal.RefValue

end
-- ==== Proof.Equation.lean ====
/- The equation of the claim: where the biases are zero and the scores in range, the kernel's result is the reference's. -/
module

public import proofs.«01_k».proof.Proof.KernelValue
public import proofs.«01_k».proof.Proof.RefValue
public import proofs.«01_k».proof.Proof.Softmax

@[expose] public section

set_option maxRecDepth 16384

noncomputable section

namespace Cert.Equation

open Idealize.ShloMosaic
open Cert.KernelIdeal Cert.KernelIdeal.KernelValue

variable (x0 x1 x2 : FVec Ideal S2x2048x1024 .f32) (w3 w5 w7 w9 : FVec Ideal S1024x1024 .f32) (b10 : FVec Ideal S1024 .f32)

/-- The bias that is zero everywhere. -/
abbrev zeros : FVec Ideal S1024 .f32 := fun _ => (0 : EReal)

/-- A head of the kernel is a head of the reference whose bias is zero. -/
theorem head_eq (x : FVec Ideal S2x2048x1024 .f32) (W : FVec Ideal S1024x1024 .f32) (h : Fin 16) (b : Fin 2) (d : Fin 64)
    (s : Fin 2048) : head x W h b d s = Cert.ReferenceIdeal.RefValue.head x W zeros b h s d := by
  unfold head Cert.ReferenceIdeal.RefValue.head
  rw [add_zero]
  exact Finset.sum_congr rfl fun i _ => mul_comm _ _

/-- A weight of the kernel: where the row's maximum is at most 60 the clamp does nothing, and the weight is the
    exponential of the reference's score. -/
theorem weight_eq (b : Fin 2) (h : Fin 16) (s x : Fin 2048)
    (ht : Cert.ReferenceIdeal.RefValue.top x0 x1 w3 w5 zeros zeros b h s ≤ ((60 : ℝ) : EReal)) :
    Payload.weight (fun i => head x0 w3 h b i s) (fun i => head x1 w5 h b i x)
      = Ideal.exp (Cert.ReferenceIdeal.RefValue.score x0 x1 w3 w5 zeros zeros b h s x) := by
  have hs : Cert.ReferenceIdeal.RefValue.score x0 x1 w3 w5 zeros zeros b h s x ≤ ((60 : ℝ) : EReal) :=
    ((Softmax.fold_max fun x => Cert.ReferenceIdeal.RefValue.score x0 x1 w3 w5 zeros zeros b h s x).1 x).trans ht
  unfold Payload.weight
  rw [Softmax.score_eq, Softmax.sixty]
  simp only [head_eq]
  exact congrArg Ideal.exp (min_eq_left hs)

/-- A head's attended values are the reference's. -/
theorem attended_eq (b : Fin 2) (h : Fin 16) (s : Fin 2048) (d : Fin 64)
    (hb : ⊥ < Cert.ReferenceIdeal.RefValue.top x0 x1 w3 w5 zeros zeros b h s)
    (ht : Cert.ReferenceIdeal.RefValue.top x0 x1 w3 w5 zeros zeros b h s ≤ ((60 : ℝ) : EReal)) :
    headOut x0 x1 x2 w3 w5 w7 h b d s = Cert.ReferenceIdeal.RefValue.attended x0 x1 x2 w3 w5 w7 zeros zeros zeros b h s d := by
  have hm := Softmax.fold_max fun x => Cert.ReferenceIdeal.RefValue.score x0 x1 w3 w5 zeros zeros b h s x
  unfold headOut Payload.attend Cert.ReferenceIdeal.RefValue.attended
  simp only [weight_eq x0 x1 w3 w5 b h s _ ht, head_eq x2]
  change ⊥ < Finset.univ.fold max ⊥ _ at hb
  exact Softmax.average_eq (fun x => Cert.ReferenceIdeal.RefValue.score x0 x1 w3 w5 zeros zeros b h s x)
    (fun x => Cert.ReferenceIdeal.RefValue.head x2 w7 zeros b h x d) (Cert.ReferenceIdeal.RefValue.top x0 x1 w3 w5 zeros zeros b h s)
    hm.1 (hm.2 hb) hb (ht.trans_lt (EReal.coe_lt_top 60))

/-- The kernel's result is the reference's, element by element. -/
theorem result_eq (hr : ∀ b h s, ⊥ < Cert.ReferenceIdeal.RefValue.top x0 x1 w3 w5 zeros zeros b h s
      ∧ Cert.ReferenceIdeal.RefValue.top x0 x1 w3 w5 zeros zeros b h s ≤ ((60 : ℝ) : EReal)) (b : Fin 2) (s : Fin 2048) (e : Fin 1024) :
    result x0 x1 x2 w3 w5 w7 w9 b10 b s e
      = Cert.ReferenceIdeal.Read.val_main_v44 (F := Ideal) x0 x1 x2 w3 zeros w5 zeros w7 zeros w9 b10 (ix3 b s e) := by
  rw [Cert.ReferenceIdeal.RefValue.result]
  unfold result
  refine congrArg (· + _) (Finset.sum_congr rfl fun j _ => congrArg (· * _) ?_)
  exact attended_eq x0 x1 x2 w3 w5 w7 b _ s _ (hr _ _ _).1 (hr _ _ _).2

end Cert.Equation

end
-- ==== Proof.PreValue.lean ====
/- The precondition read as facts about the arguments: the three input biases are zero, and every row's largest score is
   above minus infinity and at most 60. -/
module

public import proofs.«01_k».proof.Proof.RefValue
public import proofs.«01_k».proof.Proof.Gen.Pre_scores_in_range

@[expose] public section

set_option maxRecDepth 16384

noncomputable section

namespace Cert.PreValue

open Idealize.ShloMosaic
open Cert.ReferenceIdeal (S2x2048x1024 S1024x1024 S1024 S2x16x2048)
open Cert.ReferenceIdeal.Read Cert.ReferenceIdeal.RefValue

variable (x0 x1 x2 : FVec Ideal S2x2048x1024 .f32) (w3 w5 w7 w9 : FVec Ideal S1024x1024 .f32)
  (b4 b6 b8 b10 : FVec Ideal S1024 .f32)

/-- A truth value written as one bit that is set. -/
theorem of_ofBool {p : Prop} [Decidable p] (h : BitVec.ofBool (decide p) = 1#1) : p := by
  by_contra hp
  rw [decide_eq_false hp] at h
  exact absurd h (by decide)

/-- A comparison for equality that came out true is an equality. -/
theorem eq_of_oeq {x y : EReal} (h : Ideal.cmp .oeq x y = 1#1) : x = y := by
  exact of_ofBool h

/-- A comparison `y > x` that came out true. -/
theorem lt_of_ogt {x y : EReal} (h : Ideal.cmp .ogt y x = 1#1) : x < y := by
  exact of_ofBool h

/-- A comparison `x ≤ y` that came out true. -/
theorem le_of_ole {x y : EReal} (h : Ideal.cmp .ole x y = 1#1) : x ≤ y := by
  exact of_ofBool h

/-- A bit-wise conjunction of two truth values that came out true. -/
theorem both {x y : BitVec 1} (h : x &&& y = 1#1) : x = 1#1 ∧ y = 1#1 := by
  revert x y; decide

/-- A bias compared equal to zero everywhere is zero. -/
theorem zero_of (b : FVec Ideal S1024 .f32)
    (h : cmpf .oeq b (broadcastInDim S1024 ![] Cert.Pre_scores_in_range.Gen.bcast_S_S1024 (constant Cert.Pre_scores_in_range.S_ .f32 0x00000000#32))
      = fun _ => 1#1) : b = fun _ => (0 : EReal) := by
  funext i
  have := congrFun h i
  refine eq_of_oeq (Eq.trans ?_ this)
  rw [← Ideal.ofBits_zero .f32]
  rfl

/-- An array compared above minus infinity and at most 60 everywhere is so at every index. -/
theorem range_of (v : FVec Ideal S2x16x2048 .f32)
    (h : andi (cmpf .ogt v (broadcastInDim S2x16x2048 ![] Cert.Pre_scores_in_range.Gen.bcast_S_S2x16x2048
          (constant Cert.Pre_scores_in_range.S_ .f32 0xFF800000#32)))
        (cmpf .ole v (broadcastInDim S2x16x2048 ![] Cert.Pre_scores_in_range.Gen.bcast_S_S2x16x2048
          (constant Cert.Pre_scores_in_range.S_ .f32 0x42700000#32)))
      = fun _ => 1#1) (j : S2x16x2048.Idx) : ⊥ < v j ∧ v j ≤ ((60 : ℝ) : EReal) := by
  have hi : (Ideal.cmp .ogt (v j) (Ideal.ofBits .f32 0xFF800000#32)) &&& (Ideal.cmp .ole (v j) (Ideal.ofBits .f32 0x42700000#32))
      = 1#1 := congrFun h j
  rw [Softmax.neg_inf, Softmax.sixty] at hi
  exact ⟨lt_of_ogt (both hi).1, le_of_ole (both hi).2⟩

/-- What the predicate's four results say. -/
theorem facts
    (h : (Cert.Pre_scores_in_range.fn (F := Ideal) x0 x1 x2 w3 b4 w5 b6 w7 b8 w9 b10).1 = (fun _ => 1#1)
      ∧ (Cert.Pre_scores_in_range.fn (F := Ideal) x0 x1 x2 w3 b4 w5 b6 w7 b8 w9 b10).2.1 = (fun _ => 1#1)
      ∧ (Cert.Pre_scores_in_range.fn (F := Ideal) x0 x1 x2 w3 b4 w5 b6 w7 b8 w9 b10).2.2.1 = (fun _ => 1#1)
      ∧ (Cert.Pre_scores_in_range.fn (F := Ideal) x0 x1 x2 w3 b4 w5 b6 w7 b8 w9 b10).2.2.2 = (fun _ => 1#1)) :
    b4 = (fun _ => (0 : EReal)) ∧ b6 = (fun _ => (0 : EReal)) ∧ b8 = (fun _ => (0 : EReal))
      ∧ ∀ b h s, ⊥ < top x0 x1 w3 w5 b4 b6 b h s ∧ top x0 x1 w3 w5 b4 b6 b h s ≤ ((60 : ℝ) : EReal) := by
  obtain ⟨h4, h6, h8, ht⟩ := h
  refine ⟨zero_of b4 h4, zero_of b6 h6, zero_of b8 h8, fun b h s => ?_⟩
  rw [← tops]
  exact range_of (val_main_v26 (F := Ideal) x0 x1 w3 b4 w5 b6) ht (ix3 b h s)

end Cert.PreValue

end
-- ==== Proof.Algebraic.lean ====
/- The kernel and the reference end with the same array: the run of each, its result read as the equation's two sides. -/
module

public import proofs.«01_k».proof.Defs
public import proofs.«01_k».proof.Proof.KernelRun
public import proofs.«01_k».proof.Proof.Equation
public import proofs.«01_k».proof.Proof.PreValue
public import proofs.«01_k».proof.Proof.Gen.ReferenceIdeal.Run

@[expose] public section

set_option maxRecDepth 16384

noncomputable section

namespace Cert.Algebraic

open Idealize.ShloMosaic Idealize.ShloMosaic.TcCoe Idealize.SL.Sem

/-- From arguments that agree and are in range, the array the reference computes is the array the kernel leaves. -/
theorem arrays_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (hP : Cert.Pre_KernelIdeal_scores_in_range m) (c : Dev Cert.KernelIdeal.nD)
    (ha : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9)
        = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10)
        = m ((c.tc : Thread Cert.KernelIdeal.nD Cert.KernelIdeal.τ).loc Cert.KernelIdeal.main_arg10)) :
    (Cert.ReferenceIdeal.Value.res_main_v44 m' c : FVec Ideal Cert.KernelIdeal.S2x2048x1024 .f32)
      = Cert.KernelIdeal.Gen.W6 m g c (Proc.devRef .tc Cert.KernelIdeal.main_v12) := by
  obtain ⟨h0, h1, h2, h3, h4, h5, h6, h7, h8, h9, h10⟩ := ha
  obtain ⟨z4, z6, z8, hr⟩ := PreValue.facts _ _ _ _ _ _ _ _ _ _ _ (hP c)
  refine (Cert.ReferenceIdeal.Read.val_main_v44_eq m' c).trans ?_
  rw [h0, h1, h2, h3, h4, h5, h6, h7, h8, h9, h10, z4, z6, z8]
  rw [z4, z6] at hr
  funext j
  rw [← ix3_eta j]
  exact ((Cert.KernelIdeal.KernelValue.result_eq m g c _ _ _).trans (Equation.result_eq _ _ _ _ _ _ _ _ hr _ _ _)).symm

/-- The algebraic claim: on arguments in range both programs run to the same array and leave their arguments alone. -/
theorem claim : Cert.algebraic_KernelIdeal_ReferenceIdeal_pre_scores_in_range := fun m g m' g' hP ha =>
  ⟨fun c => Cert.KernelIdeal.Gen.W6 m g c (Proc.devRef .tc Cert.KernelIdeal.main_v12),
    Cert.KernelIdeal.KernelRun.run m g,
    (θ_run _ _ _).mono (fun r h c => ⟨(h c).1.trans (arrays_eq m g m' hP c (ha c)), (h c).2⟩)
      (Cert.ReferenceIdeal.Value.run m' g')⟩

end Cert.Algebraic

end
-- ==== Proof.lean ====
/- The certificate of the attention kernel: the three frames, the preservation, and the equation with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Algebraic
public import proofs.«01_k».proof.Proof.Gen.Pre_scores_in_range
public import Idealize.ShloMosaic.Adequacy
public import Idealize.ShloMosaic.Init

@[expose] public section

noncomputable section

namespace Cert.Proof

open Idealize.ShloMosaic Idealize.SL.Sem Cert.Kernel

/-- Everything claimed: each program runs and leaves its arguments and its counters as they were, the idealized kernel is
    the kernel, and on arguments in range the kernel's result is the reference's. -/
theorem claim : Cert.Claim := ⟨Cert.Kernel.Gen.facts, Cert.KernelIdeal.Gen.facts, Cert.ReferenceIdeal.Gen.facts,
  Cert.Pre_scores_in_range.Gen.facts, fun m ρ _ => Cert.Kernel.Gen.frame m ρ, fun m ρ _ => Cert.KernelIdeal.Gen.frame m ρ,
  fun m ρ _ => Cert.KernelIdeal.Gen.frame m ρ, fun m ρ _ => Cert.RefFrame.frame m ρ,
  fun m ρ _ => Cert.RefFrame.frame m ρ, trivial, Cert.Algebraic.claim⟩

end Cert.Proof

end
